-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x5120 : Shape := ⟨3, ![8, 1, 5120]⟩
abbrev S6912x5120 : Shape := ⟨2, ![6912, 5120]⟩
abbrev S6912 : Shape := ⟨1, ![6912]⟩
abbrev S8x5120 : Shape := ⟨2, ![8, 5120]⟩
abbrev S1x6912 : Shape := ⟨2, ![1, 6912]⟩
abbrev S8x6912 : Shape := ⟨2, ![8, 6912]⟩
abbrev S8x1 : Shape := ⟨2, ![8, 1]⟩
abbrev S768x5120 : Shape := ⟨2, ![768, 5120]⟩
abbrev S1x768 : Shape := ⟨2, ![1, 768]⟩
abbrev S8x768 : Shape := ⟨2, ![8, 768]⟩
abbrev S8 : Shape := ⟨1, ![8]⟩
abbrev S8x252 : Shape := ⟨2, ![8, 252]⟩

abbrev nBuf : Space → Nat
  | .hbm => 8
  | .vmem => 9
  | .smem => 0
  | _ => 0

abbrev bufTy : (tb : Table) → Fin (tcTables nBuf tb) → BufTy
  | .hbm, ⟨0, _⟩ => ⟨S8x1x5120, .bf16⟩
  | .hbm, ⟨1, _⟩ => ⟨S6912x5120, .fp8e4m3⟩
  | .hbm, ⟨2, _⟩ => ⟨S6912, .f32⟩
  | .hbm, ⟨3, _⟩ => ⟨S8x5120, .bf16⟩
  | .hbm, ⟨4, _⟩ => ⟨S1x6912, .f32⟩
  | .hbm, ⟨5, _⟩ => ⟨S8x6912, .bf16⟩
  | .hbm, ⟨6, _⟩ => ⟨S8x5120, .fp8e4m3⟩
  | .hbm, ⟨7, _⟩ => ⟨S8x1, .f32⟩
  | .local _ .vmem, ⟨0, _⟩ => ⟨S8x5120, .bf16⟩
  | .local _ .vmem, ⟨1, _⟩ => ⟨S768x5120, .fp8e4m3⟩
  | .local _ .vmem, ⟨2, _⟩ => ⟨S768x5120, .fp8e4m3⟩
  | .local _ .vmem, ⟨3, _⟩ => ⟨S1x768, .f32⟩
  | .local _ .vmem, ⟨4, _⟩ => ⟨S1x768, .f32⟩
  | .local _ .vmem, ⟨5, _⟩ => ⟨S8x768, .bf16⟩
  | .local _ .vmem, ⟨6, _⟩ => ⟨S8x768, .bf16⟩
  | .local _ .vmem, ⟨7, _⟩ => ⟨S8x5120, .fp8e4m3⟩
  | .local _ .vmem, ⟨8, _⟩ => ⟨S8x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S768x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S8x1x5120 : Shape := ⟨3, ![8, 1, 5120]⟩
abbrev S6912x5120 : Shape := ⟨2, ![6912, 5120]⟩
abbrev S6912 : Shape := ⟨1, ![6912]⟩
abbrev S8x5120 : Shape := ⟨2, ![8, 5120]⟩
abbrev S1x6912 : Shape := ⟨2, ![1, 6912]⟩
abbrev S8x6912 : Shape := ⟨2, ![8, 6912]⟩
abbrev S8x1 : Shape := ⟨2, ![8, 1]⟩
abbrev S8 : Shape := ⟨1, ![8]⟩

abbrev nBuf : Space → Nat
  | .hbm => 8
  | .vmem => 6
  | .smem => 0
  | _ => 0

abbrev bufTy : (tb : Table) → Fin (tcTables nBuf tb) → BufTy
  | .hbm, ⟨0, _⟩ => ⟨S8x1x5120, .bf16⟩
  | .hbm, ⟨1, _⟩ => ⟨S6912x5120, .fp8e4m3⟩
  | .hbm, ⟨2, _⟩ => ⟨S6912, .f32⟩
  | .hbm, ⟨3, _⟩ => ⟨S8x5120, .bf16⟩
  | .hbm, ⟨4, _⟩ => ⟨S1x6912, .f32⟩
  | .hbm, ⟨5, _⟩ => ⟨S8x6912, .bf16⟩
  | .hbm, ⟨6, _⟩ => ⟨S8x5120, .fp8e4m3⟩
  | .hbm, ⟨7, _⟩ => ⟨S8x1, .f32⟩
  | .local _ .vmem, ⟨0, _⟩ => ⟨S8x5120, .bf16⟩
  | .local _ .vmem, ⟨1, _⟩ => ⟨S6912x5120, .fp8e4m3⟩
  | .local _ .vmem, ⟨2, _⟩ => ⟨S1x6912, .f32⟩
  | .local _ .vmem, ⟨3, _⟩ => ⟨S8x6912, .bf16⟩
  | .local _ .vmem, ⟨4, _⟩ => ⟨S8x5120, .fp8e4m3⟩
  | .local _ .vmem, ⟨5, _⟩ => ⟨S8x1, .f32⟩
  | _, _ => ⟨S8x1x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6912x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6912 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x6912 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x5120 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.KernelBody.lean ====
/- The body of the kernel, grid point by grid point. At point 0 it quantises the activations into the two resident output
   windows and multiplies; at the later points it finds both as point 0 left them and only multiplies. -/
module

public import proofs.«01_k».proof.Proof.Gen.KernelIdeal.Frame
public import proofs.«01_k».proof.Proof.Gen.KernelIdeal.Skeleton
public import Idealize.ShloMosaic.Lib.VecWindow
public import Idealize.ShloMosaic.Lib.Pipeline.TableIdle
public import Idealize.ShloMosaic.Lib.Claim

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body computes -/

/-- The quantised activations, as the body computes them from the activations. -/
def codes (x : Vec F S8x5120 .bf16) : Vec F S8x5120 .fp8e4m3 := k0_pay1 (k0_pay4 x) (k0_pay6 x)

/-- The scale of each token, as the body computes it from the activations. -/
def scale (x : Vec F S8x5120 .bf16) : Vec F S8x1 .f32 := k0_pay2 (k0_pay5 x)

/-- One tile of the layer's result: the quantised activations times the tile's weights, scaled, through the GELU. -/
def tile (x : Vec F S8x5120 .bf16) (w : Vec F S768x5120 .fp8e4m3) (s : Vec F S1x768 .f32) : Vec F S8x768 .bf16 :=
  k0_pay3 (codes x) w (scale x) s

/-- A load of a whole buffer reads what the buffer holds. -/
theorem load_whole {S : Shape} {e : EltTy} (a : Memref sig .tc .vmem S e) (ha : a.IsWhole) (x : Vec F S e) {off : Fin S.rank → ℕ}
    (inb : ∀ d, off d + S.size d ≤ S.size d) :
    View.readAt (Elt F) a.view (Rect.unit off S.size inb).toLoadRect (ha.unread x) = x :=
  (View.readAt_full _ _ _).trans (ha.read_unread x)

/-! ## The two cases of the body -/

/-- The body's one condition: this is the first grid point. -/
abbrev first (i : grid0.Coords) : Prop := k0_cond1 i = 1#1

/-- It holds at point 0 and nowhere else. -/
theorem first_iff : ∀ t : Fin cfg0.N, first (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [first, k0_cond1, e0]
    word_cmp
   : ∀ t : Fin grid0.N, first (grid0.coords t) ↔ t.val % 9 = 0)

set_option maxHeartbeats 1000000 in
/-- The body at the first point: from the three inputs' blocks and anything in the output buffers, it leaves the tile,
    the quantised activations and the scales. -/
theorem run_first (c : Dev nD) (i : grid0.Coords) (arg1 : Memref sig .tc .vmem S8x5120 .bf16) (harg1 : arg1.IsWhole) (arg2 : Memref sig .tc .vmem S768x5120 .fp8e4m3) (harg2 : arg2.IsWhole) (arg3 : Memref sig .tc .vmem S1x768 .f32) (harg3 : arg3.IsWhole) (arg4 : Memref sig .tc .vmem S8x768 .bf16) (harg4 : arg4.IsWhole) (arg5 : Memref sig .tc .vmem S8x5120 .fp8e4m3) (harg5 : arg5.IsWhole) (arg6 : Memref sig .tc .vmem S8x1 .f32) (harg6 : arg6.IsWhole) (hc0 : first i)
    (x0 : Vec F S8x5120 .bf16) (x1 : Vec F S768x5120 .fp8e4m3) (x2 : Vec F S1x768 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare (tile x0 x1 x2) ∗ owns (c : Thread nD τ) arg5 fullShare (codes x0) ∗ owns (c : Thread nD τ) arg6 fullShare (scale x0)) -∗ K ⟨⟩))
      ⊢ wp frame (wpE (defs₀ (F := F)) Variants.none c none) E (cc0_w8a8_linear_gelu i arg1 harg1 arg2 harg2 arg3 harg3 arg4 harg4 arg5 harg5 arg6 harg6) K := by
  simp only [cc0_w8a8_linear_gelu_eq_skeleton]; unfold cc0_w8a8_linear_gelu_skel
  simp only [k0_part1_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg1.eq_unread hf0; obtain rfl := harg2.eq_unread hf1; obtain rfl := harg3.eq_unread hf2
  have l0 := load_whole arg1 harg1 x0 inb_S8x5120_S8x5120_0_0
  have l1 := load_whole arg2 harg2 x1 inb_S768x5120_S768x5120_0_0
  have l2 := load_whole arg3 harg3 x2 inb_S1x768_S1x768_0_0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_words
    exact (View.read_writes_full _ _ _ _ _).trans
      (congrArg₂ (fun a b => k0_pay3 a x1 b x2) (View.readCov_full _ _ _ _ _) (View.readCov_full _ _ _ _ _))
  isplitl [H4]
  · iexists _; isplitr; swap; · iexact H4
    ipureintro
    sl_unfold_words
    exact View.read_writes_full _ _ _ _ _
  iexists _; isplitr; swap; · iexact H5
  ipureintro
  sl_unfold_words
  exact View.read_writes_full _ _ _ _ _

set_option maxHeartbeats 1000000 in
/-- The body at a later point: from the weights' and their scales' blocks, and the codes `q` and scales `s` it finds in
    the two resident buffers, it leaves the product's tile and those two buffers as they were. -/
theorem run_later (c : Dev nD) (i : grid0.Coords) (arg1 : Memref sig .tc .vmem S8x5120 .bf16) (harg1 : arg1.IsWhole) (arg2 : Memref sig .tc .vmem S768x5120 .fp8e4m3) (harg2 : arg2.IsWhole) (arg3 : Memref sig .tc .vmem S1x768 .f32) (harg3 : arg3.IsWhole) (arg4 : Memref sig .tc .vmem S8x768 .bf16) (harg4 : arg4.IsWhole) (arg5 : Memref sig .tc .vmem S8x5120 .fp8e4m3) (harg5 : arg5.IsWhole) (arg6 : Memref sig .tc .vmem S8x1 .f32) (harg6 : arg6.IsWhole) (hc0 : ¬first i)
    (x0 : Vec F S8x5120 .bf16) (x1 : Vec F S768x5120 .fp8e4m3) (x2 : Vec F S1x768 .f32) (q : Vec F S8x5120 .fp8e4m3) (s : Vec F S8x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare q ∗ owns (c : Thread nD τ) arg6 fullShare s
        ∗ (iprop(owns (c : Thread nD τ) arg1 fullShare x0 ∗ owns (c : Thread nD τ) arg2 fullShare x1 ∗ owns (c : Thread nD τ) arg3 fullShare x2 ∗ owns (c : Thread nD τ) arg4 fullShare (k0_pay3 q x1 s x2) ∗ owns (c : Thread nD τ) arg5 fullShare q ∗ owns (c : Thread nD τ) arg6 fullShare s) -∗ K ⟨⟩))
      ⊢ wp frame (wpE (defs₀ (F := F)) Variants.none c none) E (cc0_w8a8_linear_gelu i arg1 harg1 arg2 harg2 arg3 harg3 arg4 harg4 arg5 harg5 arg6 harg6) K := by
  simp only [cc0_w8a8_linear_gelu_eq_skeleton]; unfold cc0_w8a8_linear_gelu_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg1.eq_unread hf0; obtain rfl := harg2.eq_unread hf1; obtain rfl := harg3.eq_unread hf2
  obtain rfl := harg5.eq_unread hf4; obtain rfl := harg6.eq_unread hf5
  have l1 := load_whole arg2 harg2 x1 inb_S768x5120_S768x5120_0_0
  have l2 := load_whole arg3 harg3 x2 inb_S1x768_S1x768_0_0
  have l4 := load_whole arg5 harg5 q inb_S8x5120_S8x5120_0_0
  have l5 := load_whole arg6 harg6 s inb_S8x1_S8x1_0_0
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; swap; · iexact H3
    ipureintro
    sl_unfold_words
    exact View.read_writes_full _ _ _ _ _
  isplitl [H4]
  · iexists _; isplitr; · ipureintro; exact harg5.read_unread _
    iexact H4
  iexists _; isplitr; · ipureintro; exact harg6.read_unread _
  iexact H5

/-! ## What each window's buffer holds after the body -/

/-- The first grid point. -/
abbrev t0 : Fin cfg0.N := ⟨0, Nat.lt_of_lt_of_eq (by decide : 0 < 9) N_0.symm⟩

/-- The proof data of the pipeline: after the body each input's buffer holds its block, the result's buffer the point's tile, and
    the two resident buffers the codes and the scales that the first point computed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => tile (iblk m c 0 t0) (iblk m c 1 t) (iblk m c 2 t)
    | ⟨4, _⟩ => codes (iblk m c 0 t0)
    | ⟨5, _⟩ => scale (iblk m c 0 t0)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = tile (iblk m c 0 t0) (iblk m c 1 t) (iblk m c 2 t) := by dsimp only [dats]
theorem after_4 (c : Dev nD) (t : Fin cfg0.N) : (dats m 0 c).after 4 t = codes (iblk m c 0 t0) := by dsimp only [dats]
theorem after_5 (c : Dev nD) (t : Fin cfg0.N) : (dats m 0 c).after 5 t = scale (iblk m c 0 t0) := by dsimp only [dats]

/-- Each input's buffer holds its block when the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## Where the resident windows are stored -/

/-- The body stores the resident windows at the first point, -/
theorem stored_4 (t : Fin cfg0.N) (h : t.val % 9 = 0) : cfg0.idle 4 (grid0.coords t) = false := by
  show (!(k0_cond1 (grid0.coords t) == 1#1)) = false
  rw [(first_iff t).mpr h]; rfl
theorem stored_5 (t : Fin cfg0.N) (h : t.val % 9 = 0) : cfg0.idle 5 (grid0.coords t) = false := by
  show (!(k0_cond1 (grid0.coords t) == 1#1)) = false
  rw [(first_iff t).mpr h]; rfl

/-- and at no later one. -/
theorem idle_4 (t : Fin cfg0.N) (h : ¬t.val % 9 = 0) : cfg0.idle 4 (grid0.coords t) = true := by
  show (!(k0_cond1 (grid0.coords t) == 1#1)) = true
  rw [Bool.not_eq_true', beq_eq_false_iff_ne]
  exact fun e => h ((first_iff t).mp e)
theorem idle_5 (t : Fin cfg0.N) (h : ¬t.val % 9 = 0) : cfg0.idle 5 (grid0.coords t) = true := by
  show (!(k0_cond1 (grid0.coords t) == 1#1)) = true
  rw [Bool.not_eq_true', beq_eq_false_iff_ne]
  exact fun e => h ((first_iff t).mp e)

/-- From the second point on, the codes' buffer holds what the first point left in it. -/
theorem before_4 (c : Dev nD) (d) : ∀ (n : ℕ) (t : Fin cfg0.N), t.val = n + 1 → (dats m 0 c).before 4 t d = codes (iblk m c 0 t0)
  | n, t, ht => by
    have hN : t.val < 9 := lt_of_lt_of_eq t.isLt (show cfg0.N = 9 from N_0)
    have hlt : t.val - 1 < cfg0.N := Nat.lt_of_le_of_lt (Nat.sub_le _ _) t.isLt
    have hfl : (cfg0.win 4).flush ⟨t.val - 1, hlt⟩ = false := by
      rw [← Bool.not_eq_true, flush0_4]; show ¬(t.val - 1) % 9 = 8; omega
    rw [(dats m 0 c).before_of_pos 4 t (by omega) ((cfg0.win 4).fetch_out rfl t) d, hfl, if_neg Bool.false_ne_true]
    unfold Dat.left
    match n, ht with
    | 0, ht =>
      rw [stored_4 ⟨t.val - 1, hlt⟩ (by show (t.val - 1) % 9 = 0; omega)]
      show (dats m 0 c).kept 4 ⟨t.val - 1, hlt⟩ d = _
      unfold Dat.kept
      rw [Pipeline.fill_of_clip_none (cfg := cfg0) 4 _ (fun _ => rfl) d ((dats m 0 c).after 4 _), Window.fill_cut, after_4]
    | n + 1, ht =>
      rw [idle_4 ⟨t.val - 1, hlt⟩ (by show ¬(t.val - 1) % 9 = 0; omega)]
      exact before_4 c d n ⟨t.val - 1, hlt⟩ (by show t.val - 1 = n + 1; omega)

/-- And the scales' buffer likewise. -/
theorem before_5 (c : Dev nD) (d) : ∀ (n : ℕ) (t : Fin cfg0.N), t.val = n + 1 → (dats m 0 c).before 5 t d = scale (iblk m c 0 t0)
  | n, t, ht => by
    have hN : t.val < 9 := lt_of_lt_of_eq t.isLt (show cfg0.N = 9 from N_0)
    have hlt : t.val - 1 < cfg0.N := Nat.lt_of_le_of_lt (Nat.sub_le _ _) t.isLt
    have hfl : (cfg0.win 5).flush ⟨t.val - 1, hlt⟩ = false := by
      rw [← Bool.not_eq_true, flush0_5]; show ¬(t.val - 1) % 9 = 8; omega
    rw [(dats m 0 c).before_of_pos 5 t (by omega) ((cfg0.win 5).fetch_out rfl t) d, hfl, if_neg Bool.false_ne_true]
    unfold Dat.left
    match n, ht with
    | 0, ht =>
      rw [stored_5 ⟨t.val - 1, hlt⟩ (by show (t.val - 1) % 9 = 0; omega)]
      show (dats m 0 c).kept 5 ⟨t.val - 1, hlt⟩ d = _
      unfold Dat.kept
      rw [Pipeline.fill_of_clip_none (cfg := cfg0) 5 _ (fun _ => rfl) d ((dats m 0 c).after 5 _), Window.fill_cut, after_5]
    | n + 1, ht =>
      rw [idle_5 ⟨t.val - 1, hlt⟩ (by show ¬(t.val - 1) % 9 = 0; omega)]
      exact before_5 c d n ⟨t.val - 1, hlt⟩ (by show t.val - 1 = n + 1; omega)

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

/-- The activations' block is the same at every point. -/
theorem iblk_0 (c : Dev nD) (t : Fin cfg0.N) : iblk m c 0 t = iblk m c 0 t0 := rfl

/-- A window that is stored at a point is left at what the proof data says of it there. -/
theorem leaves_stored (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- The codes' buffer, found at the codes and not stored, is left as the proof data says. -/
theorem leaves_4 (c : Dev nD) (t : Fin cfg0.N) (h : ¬t.val % 9 = 0) :
    (owns (c : Thread nD τ) (st0_4 t) fullShare (codes (iblk m c 0 t0)) : sProp 𝕄) ⊢ (dats m 0 c).leavesExact 4 t := by
  unfold Dat.leavesExact
  rw [show cfg0.idle 4 (cfg0.grid.coords t) = true from idle_4 t h]
  cases hf : (cfg0.win 4).flush t
  · show _ ⊢ iprop(∃ d, owns (c : Thread nD τ) (st0_4 t) fullShare ((dats m 0 c).before 4 t d))
    iintro H
    iexists fun _ => Classical.choice inferInstance
    rw [before_4 m c _ (t.val - 1) t (by omega)]
    iexact H
  · show _ ⊢ owns (c : Thread nD τ) (st0_4 t) fullShare ((dats m 0 c).after 4 t)
    rw [after_4]

/-- The scales' buffer likewise. -/
theorem leaves_5 (c : Dev nD) (t : Fin cfg0.N) (h : ¬t.val % 9 = 0) :
    (owns (c : Thread nD τ) (st0_5 t) fullShare (scale (iblk m c 0 t0)) : sProp 𝕄) ⊢ (dats m 0 c).leavesExact 5 t := by
  unfold Dat.leavesExact
  rw [show cfg0.idle 5 (cfg0.grid.coords t) = true from idle_5 t h]
  cases hf : (cfg0.win 5).flush t
  · show _ ⊢ iprop(∃ d, owns (c : Thread nD τ) (st0_5 t) fullShare ((dats m 0 c).before 5 t d))
    iintro H
    iexists fun _ => Classical.choice inferInstance
    rw [before_5 m c _ (t.val - 1) t (by omega)]
    iexact H
  · show _ ⊢ owns (c : Thread nD τ) (st0_5 t) fullShare ((dats m 0 c).after 5 t)
    rw [after_5]

set_option maxHeartbeats 800000 in
/-- The body at any point: from the buffers as the pipeline hands them over to the buffers as the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    leaves_stored m c 0 t rfl, leaves_stored m c 1 t rfl, leaves_stored m c 2 t rfl, leaves_stored m c 3 t rfl,
    after_0, after_1, after_2, after_3, iblk_0 m c t]
  by_cases h0 : t.val % 9 = 0
  · rw [leaves_stored m c 4 t (stored_4 t h0), leaves_stored m c 5 t (stored_5 t h0), after_4, after_5]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((first_iff t).mpr h0) (iblk m c 0 t0) (iblk m c 1 t) (iblk m c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 m c _ (t.val - 1) t (by omega), before_5 m c _ (t.val - 1) t (by omega)]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((first_iff t).mp h)) (iblk m c 0 t0) (iblk m c 1 t) (iblk m c 2 t) (codes (iblk m c 0 t0)) (scale (iblk m c 0 t0)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iapply (leaves_4 m c t h0); iexact H4
    iapply (leaves_5 m c t h0); iexact H5

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's demand on the body, met at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every execution of the kernel terminates without a fault, with each array at what the proof data computes and
    every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame of the kernel: termination, no fault, the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.KernelFrame.lean ====
/- The frame of the kernel's program over machine floats. No operation of the kernel was rewritten for the reading over
   the extended reals, so `Cert.Kernel` and `Cert.KernelIdeal` are one program under two names. The parts are equated one by
   one, each over any reading of the floats, and the frame proved in `KernelBody.lean` for any reading is carried over. -/
module

public import proofs.«01_k».proof.Defs
public import proofs.«01_k».proof.Proof.KernelBody
public import proofs.«01_k».proof.Proof.Gen.Kernel

@[expose] public section

set_option maxRecDepth 16384

noncomputable section

namespace Cert.Kernel.Body

open Idealize.ShloMosaic Idealize.SL.Sem

local instance : Cert.Kernel.Facts := Cert.Kernel.Gen.facts
local instance : Cert.KernelIdeal.Facts := Cert.KernelIdeal.Gen.facts

variable {F : FTy → Type} [FloatOps F]

/-- The program that calls the kernel is the same in both. -/
theorem main_eq : Cert.Kernel.main (F := F) = Cert.KernelIdeal.main (F := F) := rfl

/-- The table with the kernel's body is the same in both: its one label is compared, there is no other. -/
theorem bodies_eq : @Cert.Kernel.defs₀ F _ _ = @Cert.KernelIdeal.defs₀ F _ _ := by
  unfold Cert.Kernel.defs₀ Cert.KernelIdeal.defs₀
  refine congrArg Defs.onTc ?_
  funext l a
  obtain ⟨_ | n, h⟩ := l
  · rfl
  · exact absurd h (Nat.not_lt.2 (Nat.le_add_left _ _))

/-- The table with the kernel's pipeline is the same in both. -/
theorem defs_eq : @Cert.Kernel.defs F _ _ = @Cert.KernelIdeal.defs F _ _ := by
  unfold Cert.Kernel.defs Cert.KernelIdeal.defs
  rw [bodies_eq]
  rfl

/-- The kernel's program over machine floats terminates, leaves its arguments as they were and every
semaphore at zero. -/
theorem frame : Cert.quiescent_Kernel (hKernel := Cert.Kernel.Gen.facts) := by
  intro m g _
  have h := Cert.KernelIdeal.Body.frame (F := Bits) m g
  rw [← defs_eq, ← main_eq] at h
  exact h

end Cert.Kernel.Body

end
-- ==== Proof.Exponent.lean ====
/- The power-of-two scale, as arithmetic on the extended reals: the exponent of a scale, the float a table of words gives for it,
   and the two ways of finding it — a search of a table of binades, and a rounded-down logarithm. -/
module

public import Idealize.ShloMosaic.PureOps.Ideal
public import Idealize.ShloMosaic.PureOps.Reduce
public import Idealize.ShloMosaic.Lib.WordSum

@[expose] public section

noncomputable section

namespace Cert.Exponent

open Idealize.ShloMosaic

/-- The exponent of a scale: for `2^(-126) ≤ v < 2^126` the integer `e` with `2^(e-1) ≤ v < 2^e`, and 0 for any other `v`. -/
def expo (v : EReal) : ℤ :=
  if (((2 : ℝ) ^ (-126 : ℤ) : ℝ) : EReal) ≤ v ∧ v < (((2 : ℝ) ^ (126 : ℤ) : ℝ) : EReal) then ⌊Real.log v.toReal / Real.log 2⌋ + 1 else 0

/-- An extended real in the range of the table is a positive real. -/
theorem real_of_mem {v : EReal} (h : (((2 : ℝ) ^ (-126 : ℤ) : ℝ) : EReal) ≤ v ∧ v < (((2 : ℝ) ^ (126 : ℤ) : ℝ) : EReal)) :
    ∃ r : ℝ, v = (r : EReal) ∧ 0 < r ∧ (2 : ℝ) ^ (-126 : ℤ) ≤ r ∧ r < (2 : ℝ) ^ (126 : ℤ) := by
  induction v with
  | bot => exact absurd h.1 (not_le.mpr (EReal.bot_lt_coe _))
  | top => exact absurd h.2 (not_lt.mpr le_top)
  | coe r =>
    have h1 := EReal.coe_le_coe_iff.mp h.1
    exact ⟨r, rfl, lt_of_lt_of_le (by positivity) h1, h1, EReal.coe_lt_coe_iff.mp h.2⟩

/-- A positive real is at least `2^e` exactly when `e` is at most its base-two logarithm rounded down. -/
theorem zpow_le_iff {r : ℝ} (hr : 0 < r) (e : ℤ) : (2 : ℝ) ^ e ≤ r ↔ e ≤ ⌊Real.log r / Real.log 2⌋ := by
  rw [Int.le_floor, le_div_iff₀ (Real.log_pos (by norm_num)), ← Real.log_zpow, Real.log_le_log_iff (by positivity) hr]

/-- A positive real lies in the binade `[2^(e-1), 2^e)` exactly for `e` its base-two logarithm rounded down, plus one. -/
theorem mem_binade_iff {r : ℝ} (hr : 0 < r) (e : ℤ) : ((2 : ℝ) ^ (e - 1) ≤ r ∧ r < (2 : ℝ) ^ e) ↔ e = ⌊Real.log r / Real.log 2⌋ + 1 := by
  rw [← not_le, zpow_le_iff hr, zpow_le_iff hr]
  omega

/-- The exponent is one of the table's. -/
theorem expo_bounds (v : EReal) : -125 ≤ expo v ∧ expo v ≤ 126 := by
  unfold expo
  split
  · rename_i h
    obtain ⟨r, rfl, hr, h1, h2⟩ := real_of_mem h
    have h1 := (zpow_le_iff hr _).mp h1
    have h2 := mt (zpow_le_iff hr _).mpr (not_le.mpr h2)
    rw [EReal.toReal_coe]
    omega
  · omega

/-- The exponent of zero is 0. -/
theorem expo_zero : expo 0 = 0 :=
  if_neg fun h => absurd h.1 (not_le.mpr (EReal.coe_lt_coe_iff.mpr (show (0 : ℝ) < (2 : ℝ) ^ (-126 : ℤ) by positivity)))

/-! ## The word whose exponent field is `e + 127` -/

/-- The fields of a word that holds `n` in its eight exponent bits and nothing else. -/
theorem fields : ∀ n : Fin 255,
    ((BitVec.ofNat 32 n.val <<< (23 : ℕ)).extractLsb' 31 1 == 1#1) = false
      ∧ ((BitVec.ofNat 32 n.val <<< (23 : ℕ)).extractLsb' 23 8).toNat = n.val
      ∧ ((BitVec.ofNat 32 n.val <<< (23 : ℕ)).extractLsb' 0 23).toNat = 0 := by decide +kernel

/-- The float whose exponent field is `n`, all other bits zero, is `2^(n-127)`. -/
theorem ieee_fields (n : ℕ) (h1 : 1 ≤ n) (h2 : n < 255) (b : BitVec 32) (f1 : (b.extractLsb' 31 1 == 1#1) = false)
    (f2 : (b.extractLsb' 23 8).toNat = n) (f3 : (b.extractLsb' 0 23).toNat = 0) :
    Ideal.ieee 8 23 b = (((2 : ℝ) ^ ((n : ℤ) - 127) : ℝ) : EReal) := by
  have h23 : ((n : ℤ) - (2 ^ (8 - 1) - 1) - (23 : ℕ)) = (n : ℤ) - 127 + (-23) := by norm_num; ring
  have hr : (1 : ℝ) * ((2 ^ 23 + 0 : ℕ) : ℝ) * (2 : ℝ) ^ ((n : ℤ) - (2 ^ (8 - 1) - 1) - (23 : ℕ)) = (2 : ℝ) ^ ((n : ℤ) - 127) := by
    rw [h23, zpow_add₀ (by norm_num : (2 : ℝ) ≠ 0), zpow_neg]
    push_cast
    rw [show (2 : ℝ) ^ (23 : ℤ) = 8388608 by norm_num]
    ring
  unfold Ideal.ieee
  simp only [Nat.reduceAdd, f1, f2, f3]
  rw [if_neg (by omega), if_neg (by omega), if_neg Bool.false_ne_true]
  exact congrArg _ hr

/-- The float whose exponent field is `e + 127`, all other bits zero, is `2^e`. -/
theorem ofBits_word (e : ℤ) (h1 : -126 ≤ e) (h2 : e ≤ 127) (b : BitVec 32) (hb : b = BitVec.ofInt 32 e) :
    Ideal.ofBits .f32 (IntOp.shli .vector (IntOp.addi b 127#32) 23#32) = (((2 : ℝ) ^ e : ℝ) : EReal) := by
  obtain ⟨n, hn⟩ : ∃ n : Fin 255, (n.val : ℤ) = e + 127 := ⟨⟨(e + 127).toNat, by omega⟩, by show ((e + 127).toNat : ℤ) = _; omega⟩
  have hw : IntOp.addi b 127#32 = BitVec.ofNat 32 n.val := by
    rw [hb, ← BitVec.ofInt_natCast 32 n.val, hn, BitVec.ofInt_add]
    rfl
  have hs : IntOp.shli .vector (BitVec.ofNat 32 n.val) 23#32 = BitVec.ofNat 32 n.val <<< (23 : ℕ) := by
    unfold IntOp.shli
    rw [if_pos (by decide)]
    rfl
  rw [hw, hs]
  obtain ⟨f1, f2, f3⟩ := fields n
  refine (ieee_fields n.val (by omega) n.isLt _ f1 f2 f3).trans ?_
  rw [show (n.val : ℤ) - 127 = e by omega]

/-! ## The table's search -/

/-- Adding up words is adding them in the ring of words. -/
theorem fold_addi {n : ℕ} (f : Fin n → BitVec 32) : Finset.univ.fold IntOp.addi 0#32 f = ∑ k, f k := by
  classical
  induction (Finset.univ : Finset (Fin n)) using Finset.induction_on with
  | empty => rfl
  | insert a S ha ih => rw [Finset.fold_insert ha, ih, Finset.sum_insert ha]; rfl

/-- The sum, over the table's binades `[2^(e-1), 2^e)` for `e = -125, …, 126`, of the `e` whose binade holds `v` is the exponent. -/
theorem search (v : EReal) (lo hi : Fin 252 → EReal) (hlo : ∀ k, lo k = (((2 : ℝ) ^ ((k.val : ℤ) - 126) : ℝ) : EReal))
    (hhi : ∀ k, hi k = (((2 : ℝ) ^ ((k.val : ℤ) - 125) : ℝ) : EReal)) :
    (∑ k : Fin 252, if lo k ≤ v ∧ v < hi k then BitVec.ofInt 32 ((k.val : ℤ) - 125) else 0#32) = BitVec.ofInt 32 (expo v) := by
  by_cases h : (((2 : ℝ) ^ (-126 : ℤ) : ℝ) : EReal) ≤ v ∧ v < (((2 : ℝ) ^ (126 : ℤ) : ℝ) : EReal)
  · have hb := expo_bounds v
    have hE : expo v = ⌊Real.log v.toReal / Real.log 2⌋ + 1 := if_pos h
    obtain ⟨r, rfl, hr, -, -⟩ := real_of_mem h
    rw [EReal.toReal_coe] at hE
    have hk : ∀ k : Fin 252, (lo k ≤ (r : EReal) ∧ (r : EReal) < hi k) ↔ k = ⟨(expo (r : EReal) + 125).toNat, by omega⟩ := by
      intro k
      rw [hlo, hhi, EReal.coe_le_coe_iff, EReal.coe_lt_coe_iff]
      have := mem_binade_iff hr ((k.val : ℤ) - 125)
      rw [show ((k.val : ℤ) - 125 - 1) = (k.val : ℤ) - 126 by ring] at this
      rw [this, Fin.ext_iff, ← hE]
      show _ ↔ k.val = (expo (r : EReal) + 125).toNat
      omega
    simp only [hk]
    show (∑ k : Fin 252, if k = _ then BitVec.ofInt 32 ((k.val : ℤ) - 125) else (0 : BitVec 32)) = _
    rw [Finset.sum_ite_eq' Finset.univ _ (fun k : Fin 252 => BitVec.ofInt 32 ((k.val : ℤ) - 125)), if_pos (Finset.mem_univ _)]
    congr 1
    show (((expo (r : EReal) + 125).toNat : ℕ) : ℤ) - 125 = _
    omega
  · have hE : expo v = 0 := if_neg h
    rw [hE]
    refine (Finset.sum_eq_zero fun k _ => ?_).trans (by rfl)
    refine if_neg fun hk => h ⟨le_trans ?_ hk.1, lt_of_lt_of_le hk.2 ?_⟩
    · rw [hlo]
      exact EReal.coe_le_coe_iff.mpr (zpow_le_zpow_right₀ (by norm_num) (by omega))
    · rw [hhi]
      have := k.isLt
      exact EReal.coe_le_coe_iff.mpr (zpow_le_zpow_right₀ (by norm_num) (by omega))

/-! ## The logarithm -/

/-- Within the table's range the logarithm to base two, rounded down, plus one, is the exponent. -/
theorem floor_log {v : EReal} (h : (((2 : ℝ) ^ (-126 : ℤ) : ℝ) : EReal) ≤ v ∧ v < (((2 : ℝ) ^ (126 : ℤ) : ℝ) : EReal)) :
    Ideal.liftRound Int.floor (Ideal.div (Ideal.log v) (Ideal.log ((2 : ℝ) : EReal))) + ((1 : ℝ) : EReal) = ((expo v : ℝ) : EReal) := by
  have hE : expo v = ⌊Real.log v.toReal / Real.log 2⌋ + 1 := if_pos h
  obtain ⟨r, rfl, hr, -, -⟩ := real_of_mem h
  rw [EReal.toReal_coe] at hE
  have h2 : Real.log 2 ≠ 0 := (Real.log_pos (by norm_num)).ne'
  rw [Ideal.log_coe, Ideal.log_coe, if_neg (not_le.mpr hr), if_neg (by norm_num), Ideal.div_coe h2, ← EReal.coe_mul,
    Ideal.liftRound_coe, ← EReal.coe_add, hE]
  rw [mul_one_div]
  push_cast
  rfl

/-- Two to an integer power. -/
theorem exp2_int (e : ℤ) : Ideal.exp2 (((e : ℤ) : ℝ) : EReal) = (((2 : ℝ) ^ e : ℝ) : EReal) := by
  rw [Ideal.exp2_coe]
  exact congrArg _ (Real.rpow_intCast 2 e)

/-! ## The constants of the scale -/

theorem ofBits_lo : Ideal.ofBits .f32 0x00800000#32 = (((2 : ℝ) ^ (-126 : ℤ) : ℝ) : EReal) :=
  (congrArg (Ideal.ofBits .f32) (by decide : 0x00800000#32 = IntOp.shli .vector (IntOp.addi (BitVec.ofInt 32 (-126)) 127#32) 23#32)).trans
    (ofBits_word (-126) (by norm_num) (by norm_num) _ rfl)

theorem ofBits_hi : Ideal.ofBits .f32 0x7E800000#32 = (((2 : ℝ) ^ (126 : ℤ) : ℝ) : EReal) :=
  (congrArg (Ideal.ofBits .f32) (by decide : 0x7E800000#32 = IntOp.shli .vector (IntOp.addi (BitVec.ofInt 32 126) 127#32) 23#32)).trans
    (ofBits_word 126 (by norm_num) (by norm_num) _ rfl)

theorem ofBits_two : Ideal.ofBits .f32 0x40000000#32 = ((2 : ℝ) : EReal) :=
  ((congrArg (Ideal.ofBits .f32) (by decide : 0x40000000#32 = IntOp.shli .vector (IntOp.addi (BitVec.ofInt 32 1) 127#32) 23#32)).trans
    (ofBits_word 1 (by norm_num) (by norm_num) _ rfl)).trans (by rw [zpow_one])

theorem ofBits_one : Ideal.ofBits .f32 0x3F800000#32 = ((1 : ℝ) : EReal) :=
  ((congrArg (Ideal.ofBits .f32) (by decide : 0x3F800000#32 = IntOp.shli .vector (IntOp.addi (BitVec.ofInt 32 0) 127#32) 23#32)).trans
    (ofBits_word 0 (by norm_num) (by norm_num) _ rfl)).trans (by rw [zpow_zero])

theorem ofBits_zero : Ideal.ofBits .f32 0x00000000#32 = 0 := by
  simp [Ideal.ofBits, Ideal.ieee]

end Cert.Exponent

end
-- ==== Proof.Quantise.lean ====
/- The quantiser: the kernel's scales and codes are the reference's, at the extended reals. -/
module

public import proofs.«01_k».proof.Proof.Exponent
public import proofs.«01_k».proof.Proof.KernelBody
public import proofs.«01_k».proof.Proof.Gen.ReferenceIdeal.Skeleton
public import Idealize.ShloMosaic.Lib.ValueIdx
public import Idealize.ShloMosaic.Lib.ValueLayout
public import Idealize.ShloMosaic.Lib.ValueLayoutCasts
public import Idealize.ShloMosaic.Lib.Pointwise

@[expose] public section

noncomputable section

namespace Cert.Quantise

open Idealize.ShloMosaic hiding ix2 ix1
open Idealize.ShloMosaic.ValueIdx
open Cert.KernelIdeal Cert.KernelIdeal.Facts₀ Cert.Exponent
open Cert.KernelIdeal.Body (codes scale tile)

/-- The largest magnitude of each token. -/
def tokenMax (x : Vec Ideal S8x5120 .bf16) : FVec Ideal S8x1 .f32 :=
  shapeCast S8x1 (multiReduction .maximumf [1] S8 (absf (Gen.k0_pay4 x)) 0xFF800000#32 reduces_S8x5120_S8 (.inl rfl) rfl) shapeCasts_S8_S8x1

/-- The value whose exponent is taken, at an index: the largest magnitude of the token over 448. -/
def ratio (x : Vec Ideal S8x5120 .bf16) (j : S8x1.Idx) : EReal := tokenMax x j * Ideal.ofBits .f32 0x3B124925#32

/-- A column spread over a table reads, in each row, the column's element of that row. -/
theorem broadcast_col {a b : ℕ} (v : (⟨2, ![a, 1]⟩ : Shape).Idx → EReal) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A choice by two comparisons is the choice by both inequalities. -/
theorem select_cmp {α : Type} (v lo hi : EReal) (a b : α) :
    Scalar.select (IntOp.andi (Ideal.cmp .oge v lo) (Ideal.cmp .olt v hi)) a b = if lo ≤ v ∧ v < hi then a else b := by
  unfold Ideal.cmp
  dsimp only
  by_cases hp : lo ≤ v <;> by_cases hq : v < hi <;> simp [hp, hq, Scalar.select, IntOp.andi]

/-- The reference's formula for the exponent: the rounded-down logarithm plus one in the range of the table, zero outside. -/
theorem exponent_of_log (v : EReal) :
    Scalar.select (IntOp.andi (Ideal.cmp .oge v (Ideal.ofBits .f32 0x00800000#32)) (Ideal.cmp .olt v (Ideal.ofBits .f32 0x7E800000#32)))
      (Ideal.liftRound Int.floor (Ideal.div (Ideal.log v) (Ideal.log (Ideal.ofBits .f32 0x40000000#32))) + Ideal.ofBits .f32 0x3F800000#32)
      (Ideal.ofBits .f32 0x00000000#32) = ((expo v : ℝ) : EReal) := by
  rw [ofBits_lo, ofBits_hi, ofBits_two, ofBits_one, ofBits_zero]
  rw [select_cmp]
  split
  · rename_i h
    exact floor_log h
  · rename_i h
    rw [show expo v = 0 from if_neg h, Int.cast_zero, EReal.coe_zero]

/-- The word of lane `k` of the table is its exponent `k - 125`. -/
theorem lane_word : ∀ k : Fin 252, IntOp.addi (BitVec.ofNat 32 k.val) 4294967171#32 = BitVec.ofInt 32 ((k.val : ℤ) - 125)
    ∧ IntOp.subi (BitVec.ofInt 32 ((k.val : ℤ) - 125)) 1#32 = BitVec.ofInt 32 ((k.val : ℤ) - 126) := by decide +kernel

/-- A sum along the rows of a table of words. -/
theorem row_sum {a b : ℕ} (src : IVec ⟨2, ![a, b]⟩ 32) (h : (⟨2, ![a, b]⟩ : Shape).Reduces [1] ⟨1, ![a]⟩)
    (hacc : (0#32 : BitVec 32) = IKind.add.neutral) (i : Fin a) :
    multiReductionI .add [1] ⟨1, ![a]⟩ src 0#32 h hacc (ix1 i) = ∑ k : Fin b, src (ix2 i k) := by
  rw [multiReductionI_eq_fold]
  show (Finset.univ.filter fun i' => h.drop i' = ix1 i).fold IntOp.addi 0#32 src = _
  rw [h.fold_fiber_r2_a1, fold_addi]
  refine Finset.sum_congr rfl fun k _ => congrArg src (funext fun d => ?_)
  match d with
  | ⟨0, _⟩ => rfl
  | ⟨1, _⟩ => rfl

/-- The exponents of the table's lanes. -/
def lanes : IVec S8x252 32 := addi (iota .tc S8x252 32 [1] iota_S8x252_d1_w32) (broadcast S8x252 4294967171#32)

/-- The floats at the lower ends of the binades, and at the upper ends. -/
def lower : FVec Ideal S8x252 .f32 :=
  bitcastToFloat .f32 (shli (addi (subi lanes (broadcast S8x252 1#32)) (broadcast S8x252 127#32)) (broadcast S8x252 23#32))
def upper : FVec Ideal S8x252 .f32 :=
  bitcastToFloat .f32 (shli (addi lanes (broadcast S8x252 127#32)) (broadcast S8x252 23#32))

/-- The table: a lane's exponent where the lane's binade holds the value, zero elsewhere. -/
def table (v : FVec Ideal S8x1 .f32) : IVec S8x252 32 :=
  select (andi (cmpf .oge (broadcastTo S8x252 v broadcasts_S8x1_S8x252) lower) (cmpf .olt (broadcastTo S8x252 v broadcasts_S8x1_S8x252) upper))
    lanes (broadcast S8x252 0#32)

/-- The exponent word of the kernel: the sum of the table's row, or zero where the token is zero. -/
def found (a : FVec Ideal S8x1 .f32) (v : FVec Ideal S8x1 .f32) : IVec S8x1 32 :=
  select (cmpf .oeq a (broadcast S8x1 (Scalar.ofBits .f32 0x00000000#32))) (broadcast S8x1 0#32)
    (shapeCast S8x1 (multiReductionI .add [1] S8 (table v) 0#32 reduces_S8x252_S8 rfl) shapeCasts_S8_S8x1)

theorem lanes_apply (i : Fin 8) (k : Fin 252) : lanes (ix2 i k) = BitVec.ofInt 32 ((k.val : ℤ) - 125) := by
  refine Eq.trans ?_ (lane_word k).1
  show IntOp.addi (BitVec.ofNat 32 (0 * 252 + k.val)) 4294967171#32 = _
  rw [Nat.zero_mul, Nat.zero_add]

theorem lower_apply (i : Fin 8) (k : Fin 252) : lower (ix2 i k) = (((2 : ℝ) ^ ((k.val : ℤ) - 126) : ℝ) : EReal) :=
  ofBits_word _ (by omega) (by omega) (IntOp.subi (lanes (ix2 i k)) 1#32) (by rw [lanes_apply, (lane_word k).2])

theorem upper_apply (i : Fin 8) (k : Fin 252) : upper (ix2 i k) = (((2 : ℝ) ^ ((k.val : ℤ) - 125) : ℝ) : EReal) :=
  ofBits_word _ (by omega) (by omega) (lanes (ix2 i k)) (lanes_apply i k)

theorem table_apply (v : FVec Ideal S8x1 .f32) (i : Fin 8) (k : Fin 252) :
    table v (ix2 i k) = if (lower (ix2 i k) : EReal) ≤ v (ix2 i 0) ∧ (v (ix2 i 0) : EReal) < upper (ix2 i k) then BitVec.ofInt 32 ((k.val : ℤ) - 125) else 0#32 := by
  unfold table
  rw [ValueIdx.select_apply, lanes_apply]
  show Scalar.select (IntOp.andi (cmpf .oge (broadcastTo S8x252 v broadcasts_S8x1_S8x252) lower (ix2 i k))
    (cmpf .olt (broadcastTo S8x252 v broadcasts_S8x1_S8x252) upper (ix2 i k))) _ _ = _
  rw [ValueIdx.cmpf_apply, ValueIdx.cmpf_apply, Ideal.cmpf_def, Ideal.cmpf_def, broadcast_col, ValueIdx.broadcast_apply]
  exact select_cmp _ _ _ _ _

/-- The word found for a token is the exponent of its ratio. -/
theorem found_apply (a v : FVec Ideal S8x1 .f32) (hav : ∀ j, a j = 0 → v j = 0) (i : Fin 8) :
    found a v (ix2 i 0) = BitVec.ofInt 32 (expo (v (ix2 i 0))) := by
  have hs : shapeCast S8x1 (multiReductionI .add [1] S8 (table v) 0#32 reduces_S8x252_S8 rfl) shapeCasts_S8_S8x1 (ix2 i 0)
      = BitVec.ofInt 32 (expo (v (ix2 i 0))) := by
    refine (shapeCast_a_a1_apply _ _ i 0).trans ((row_sum (table v) _ _ i).trans ?_)
    simp only [table_apply]
    exact search _ _ _ (lower_apply i) (upper_apply i)
  show Scalar.select (BitVec.ofBool (decide (a (ix2 i 0) = Ideal.ofBits .f32 0x00000000#32))) 0#32 _ = _
  rw [hs, ofBits_zero]
  by_cases h : a (ix2 i 0) = 0
  · rw [hav _ h, expo_zero]
    simp [Scalar.select]
  · simp [Scalar.select, h]

/-- The kernel's exponent words, by the definitions above. -/
theorem exponents_eq (x : Vec Ideal S8x5120 .bf16) :
    Gen.k0_pay5 x = found (tokenMax x) (mulf (tokenMax x) (broadcast S8x1 (Scalar.ofBits .f32 0x3B124925#32))) := by
  unfold Gen.k0_pay5 found table lower upper lanes tokenMax
  rfl

/-- The exponent word that the kernel computes for a token is the exponent of its ratio. -/
theorem exponent_word (x : Vec Ideal S8x5120 .bf16) (j : S8x1.Idx) : Gen.k0_pay5 x j = BitVec.ofInt 32 (expo (ratio x j)) := by
  obtain ⟨i, u, rfl⟩ : ∃ (i : Fin 8) (u : Fin 1), j = ix2 i u := ⟨j 0, j 1, ValueIdx.eq_ix2 j⟩
  obtain rfl : u = 0 := Subsingleton.elim _ _
  rw [exponents_eq]
  have hz : ∀ j, tokenMax x j = 0 → mulf (tokenMax x) (broadcast S8x1 (Scalar.ofBits .f32 0x3B124925#32)) j = 0 := by
    intro j h
    rw [ValueIdx.mulf_apply, h]
    exact zero_mul (M₀ := EReal) _
  exact found_apply _ _ hz i

/-- The kernel's scale of a token: two to the exponent. -/
theorem scale_apply (x : Vec Ideal S8x5120 .bf16) (j : S8x1.Idx) :
    scale x j = (((2 : ℝ) ^ expo (ratio x j) : ℝ) : EReal) := by
  have h := expo_bounds (ratio x j)
  exact ofBits_word _ (by omega) (by omega) (Gen.k0_pay5 x j) (exponent_word x j)

/-- The kernel's multiplier of a token: two to the negated exponent. -/
theorem multiplier_apply (x : Vec Ideal S8x5120 .bf16) (j : S8x1.Idx) :
    Gen.k0_pay6 x j = (((2 : ℝ) ^ (-expo (ratio x j)) : ℝ) : EReal) := by
  have h := expo_bounds (ratio x j)
  refine ofBits_word _ (by omega) (by omega) (IntOp.subi 0#32 (Gen.k0_pay5 x j)) ?_
  rw [exponent_word]
  unfold IntOp.subi
  rw [BitVec.ofInt_neg]
  exact BitVec.zero_sub _

/-- The reference's exponents of a column of ratios. -/
def logExponent (v : FVec Ideal S8x1 .f32) : FVec Ideal S8x1 .f32 :=
  select (andi (cmpf .oge v (broadcast S8x1 (Scalar.ofBits .f32 0x00800000#32))) (cmpf .olt v (broadcast S8x1 (Scalar.ofBits .f32 0x7E800000#32))))
    (addf (floor (divf (log v) (log (broadcast S8x1 (Scalar.ofBits .f32 0x40000000#32))))) (broadcast S8x1 (Scalar.ofBits .f32 0x3F800000#32)))
    (broadcast S8x1 (Scalar.ofBits .f32 0x00000000#32))

theorem logExponent_apply (v : FVec Ideal S8x1 .f32) (j : S8x1.Idx) : logExponent v j =
    Scalar.select (IntOp.andi (Ideal.cmp .oge (v j) (Ideal.ofBits .f32 0x00800000#32)) (Ideal.cmp .olt (v j) (Ideal.ofBits .f32 0x7E800000#32)))
      (Ideal.liftRound Int.floor (Ideal.div (Ideal.log (v j)) (Ideal.log (Ideal.ofBits .f32 0x40000000#32))) + Ideal.ofBits .f32 0x3F800000#32)
      (Ideal.ofBits .f32 0x00000000#32) := rfl

/-- The reference's exponents, by the definitions above. -/
theorem reference_exponents (x : Vec Ideal S8x5120 .bf16) : Cert.ReferenceIdeal.Gen.k0_pay3 x
    = logExponent (mulf (tokenMax x) (broadcast S8x1 (Scalar.ofBits .f32 0x3B124925#32))) := by
  unfold Cert.ReferenceIdeal.Gen.k0_pay3 logExponent tokenMax
  rfl

/-- The reference's exponent of a token is the exponent of its ratio. -/
theorem reference_exponent (x : Vec Ideal S8x5120 .bf16) (j : S8x1.Idx) :
    Cert.ReferenceIdeal.Gen.k0_pay3 x j = ((expo (ratio x j) : ℝ) : EReal) := by
  rw [reference_exponents, logExponent_apply]
  exact exponent_of_log (ratio x j)

/-- The scales of the kernel and of the reference agree. -/
theorem scale_eq (x : Vec Ideal S8x5120 .bf16) : scale x = Cert.ReferenceIdeal.Gen.k0_pay4 x := by
  funext j
  rw [scale_apply]
  refine Eq.symm (Eq.trans (congrArg Ideal.exp2 (reference_exponent x j)) ?_)
  exact exp2_int _

/-- Two to the difference of a constant and a vector, at an index. -/
theorem exp2_sub_apply {s : Shape} (b : BitVec 32) (e : FVec Ideal s .f32) (j : s.Idx) :
    exp2 (subf (broadcast s (Scalar.ofBits .f32 b)) e) j = Ideal.exp2 (Ideal.ofBits .f32 b - e j) := rfl

/-- The multipliers of the kernel and of the reference agree. -/
theorem multiplier_eq (x : Vec Ideal S8x5120 .bf16) : Gen.k0_pay6 x
    = exp2 (subf (broadcast S8x1 (Scalar.ofBits .f32 0x00000000#32)) (Cert.ReferenceIdeal.Gen.k0_pay3 x)) := by
  funext j
  rw [multiplier_apply]
  rw [exp2_sub_apply, reference_exponent, ofBits_zero, zero_sub, ← EReal.coe_neg, ← Int.cast_neg]
  exact (exp2_int _).symm

/-- The codes of the kernel and of the reference agree. -/
theorem codes_eq (x : Vec Ideal S8x5120 .bf16) : codes x = Cert.ReferenceIdeal.Gen.k0_pay5 x := by
  unfold codes
  rw [multiplier_eq]
  rfl

end Cert.Quantise

end
-- ==== Proof.Tile.lean ====
/- One tile of the kernel is the reference's tile: the product, the two scales and the activation. -/
module

public import proofs.«01_k».proof.Proof.Quantise
public import Idealize.ShloMosaic.Lib.MatmulPlain

@[expose] public section

noncomputable section

namespace Cert.Tile

open Idealize.ShloMosaic hiding ix2 ix1
open Idealize.ShloMosaic.ValueIdx
open Cert.KernelIdeal Cert.KernelIdeal.Facts₀ Cert.Quantise
open Cert.KernelIdeal.Body (codes scale tile)

/-- The activation, at one extended real. -/
def gelu (z : EReal) : EReal :=
  (Ideal.ofBits .f32 0x3F000000#32 * z) * (Ideal.ofBits .f32 0x3F800000#32
    + Ideal.tanh (Ideal.ofBits .f32 0x3F4C422A#32 * (z + Ideal.ofBits .f32 0x3D372713#32 * z * z * z)))

/-- The scaled product of a block of codes and a block of weights, as the kernel computes it. -/
def kernelSum (q : FVec Ideal S8x5120 .fp8e4m3) (w : FVec Ideal S768x5120 .fp8e4m3) (a : FVec Ideal S8x1 .f32) (s : FVec Ideal S1x768 .f32) : FVec Ideal S8x768 .f32 :=
  mulf (mulf (matmul (F := Ideal) dot_S8x5120_S768x5120_S8x768_1_1_0_0_n_n none (shapeCast S8x5120 q shapeCasts_S8x5120_S8x5120) w (constant S8x768 .f32 0x00000000#32))
    (broadcastTo S8x768 (shapeCast S8x1 a shapeCasts_S8x1_S8x1) broadcasts_S8x1_S8x768))
    (broadcastTo S8x768 (shapeCast S1x768 s shapeCasts_S1x768_S1x768) broadcasts_S1x768_S8x768)

/-- The activation of a vector, as both programs compute it. -/
def activation {s : Shape} (z : FVec Ideal s .f32) : FVec Ideal s .bf16 :=
  truncf .bf16 (mulf (mulf (broadcast s (Scalar.ofBits .f32 0x3F000000#32)) z) (addf (broadcast s (Scalar.ofBits .f32 0x3F800000#32))
    (tanh (mulf (broadcast s (Scalar.ofBits .f32 0x3F4C422A#32))
      (addf z (mulf (mulf (mulf (broadcast s (Scalar.ofBits .f32 0x3D372713#32)) z) z) z)))))) bitsLt_bf16_f32

/-- The activation of a vector is taken element by element. -/
theorem activation_apply {s : Shape} (z : FVec Ideal s .f32) (i : s.Idx) : activation z i = gelu (z i) := rfl

/-- The kernel's tile is the activation of its scaled product. -/
theorem tile_gelu (q : FVec Ideal S8x5120 .fp8e4m3) (w : FVec Ideal S768x5120 .fp8e4m3) (a : FVec Ideal S8x1 .f32) (s : FVec Ideal S1x768 .f32) :
    Gen.k0_pay3 (F := Ideal) q w a s = activation (kernelSum q w a s) := by
  unfold Gen.k0_pay3 kernelSum activation
  rfl

/-- The reference's result is the activation of its scaled product. -/
theorem reference_gelu (z : FVec Ideal Cert.ReferenceIdeal.S8x6912 .f32) :
    Cert.ReferenceIdeal.Gen.k0_pay1 z Cert.ReferenceIdeal.Gen.k0_pay7 = activation z := by
  unfold Cert.ReferenceIdeal.Gen.k0_pay1 Cert.ReferenceIdeal.Gen.k0_pay7 activation
  rfl

/-- A product with the right operand transposed, scaled by a column and by a row, at an index. -/
theorem scaled_apply {M K N : ℕ} {φ₁ φ₂ : FTy} (q : FVec Ideal ⟨2, ![M, K]⟩ φ₁) (w : FVec Ideal ⟨2, ![N, K]⟩ φ₂) (a : FVec Ideal ⟨2, ![M, 1]⟩ .f32)
    (s : FVec Ideal ⟨2, ![1, N]⟩ .f32) (ha : (⟨2, ![M, 1]⟩ : Shape).Broadcasts ⟨2, ![M, N]⟩) (hs : (⟨2, ![1, N]⟩ : Shape).Broadcasts ⟨2, ![M, N]⟩)
    (z : FVec Ideal ⟨2, ![M, N]⟩ .f32) (r : Fin M) (c : Fin N) :
    mulf (mulf (FloatOps.matmul (F := Ideal) (DotDims.transposedRhs M K N) none q w z) (broadcastTo ⟨2, ![M, N]⟩ a ha)) (broadcastTo ⟨2, ![M, N]⟩ s hs) (ix2 r c)
      = (((z (ix2 r c) + ∑ k : Fin K, q (ix2 r k) * w (ix2 c k)) * a (ix2 r 0)) * s (ix2 0 c) : EReal) := by
  rw [ValueIdx.mulf_apply, ValueIdx.mulf_apply, Ideal.matmul_transposedRhs_apply, broadcast_col, broadcastTo_1b_ab_apply]

/-- The kernel's scaled product at an index. -/
theorem kernelSum_apply (q : FVec Ideal S8x5120 .fp8e4m3) (w : FVec Ideal S768x5120 .fp8e4m3) (a : FVec Ideal S8x1 .f32) (s : FVec Ideal S1x768 .f32)
    (r : Fin 8) (c : Fin 768) :
    kernelSum q w a s (ix2 r c) = (((Ideal.ofBits .f32 0x00000000#32 + ∑ k : Fin 5120, q (ix2 r k) * w (ix2 c k)) * a (ix2 r 0)) * s (ix2 0 c) : EReal) := by
  unfold kernelSum
  rw [shapeCast_self, shapeCast_self, shapeCast_self]
  exact scaled_apply q w a s _ _ _ r c

/-- The reference's scaled product at an index. -/
theorem referenceSum_apply (x : Vec Ideal S8x5120 .bf16) (w : FVec Ideal Cert.ReferenceIdeal.S6912x5120 .fp8e4m3)
    (s : FVec Ideal Cert.ReferenceIdeal.S1x6912 .f32) (r : Fin 8) (c : Fin 6912) :
    Cert.ReferenceIdeal.Gen.k0_pay6 (F := Ideal) x w s (ix2 r c)
      = (((Ideal.ofBits .f32 0x00000000#32 + ∑ k : Fin 5120, codes x (ix2 r k) * w (ix2 c k)) * scale x (ix2 r 0)) * s (ix2 0 c) : EReal) := by
  unfold Cert.ReferenceIdeal.Gen.k0_pay6
  rw [← codes_eq, ← scale_eq, shapeCast_self]
  exact scaled_apply (codes x) w (scale x) s _ _ _ r c

/-- The reference's first result as a function of its operands. -/
def result (x : Vec Ideal S8x5120 .bf16) (w : Vec Ideal Cert.ReferenceIdeal.S6912x5120 .fp8e4m3) (s : Vec Ideal Cert.ReferenceIdeal.S1x6912 .f32) :
    Vec Ideal Cert.ReferenceIdeal.S8x6912 .bf16 :=
  Cert.ReferenceIdeal.Gen.k0_pay1 (Cert.ReferenceIdeal.Gen.k0_pay6 x w s) Cert.ReferenceIdeal.Gen.k0_pay7

/-- A tile of the kernel is the reference's result at the columns that the tile's weights and weight scales come from. -/
theorem tile_eq (x : Vec Ideal S8x5120 .bf16) (w : Vec Ideal S768x5120 .fp8e4m3) (s : Vec Ideal S1x768 .f32)
    (W : Vec Ideal Cert.ReferenceIdeal.S6912x5120 .fp8e4m3) (S : Vec Ideal Cert.ReferenceIdeal.S1x6912 .f32) (r : Fin 8) (c : Fin 768) (d : Fin 6912)
    (hw : ∀ k : Fin 5120, w (ix2 c k) = W (ix2 d k)) (hs : s (ix2 0 c) = S (ix2 0 d)) :
    tile x w s (ix2 r c) = result x W S (ix2 r d) := by
  unfold tile result
  rw [tile_gelu, reference_gelu, activation_apply, activation_apply, kernelSum_apply, referenceSum_apply, hs]
  simp only [hw]

end Cert.Tile

end
-- ==== Proof.KernelResults.lean ====
/- The three result arrays of the kernel after its run, each as one function of its operands. -/
module

public import proofs.«01_k».proof.Proof.Tile
public import Idealize.ShloMosaic.Lib.Pipeline.Value

@[expose] public section

noncomputable section

namespace Cert.KernelIdeal.Results

open Idealize.ShloMosaic Idealize.ShloMosaic.TcCoe Idealize.SL.Sem
open Idealize.ShloMosaic.Pipeline (Dat Window)
open Cert.KernelIdeal Cert.KernelIdeal.Gen Cert.KernelIdeal.Body

variable (m : (ℓ : Loc nD τ sig) → Buf (Elt Ideal) ℓ) (ρ : Dev nD → PrngReg)

/-- The token array is the first argument without its unit axis. -/
theorem tokens_eq (c : Dev nD) : V m c main_v0 = shapeCast S8x5120 (m ((c : Thread nD τ).loc main_arg0)) shapeCasts_S8x1x5120_S8x5120 := by
  show StableHlo.after hostOps0 _ (Proc.devRef .tc main_v0) = _
  unfold hostOps0
  rw [StableHlo.after_cons, StableHlo.after_cons, StableHlo.after_nil, StableHlo.reshape_result_ne' _ _ _ _ _ (by decide), StableHlo.reshape_result']
  rfl

/-- The row of weight scales is the third argument under a unit axis. -/
theorem weightScales_eq (c : Dev nD) : V m c main_v1 = shapeCast S1x6912 (m ((c : Thread nD τ).loc main_arg2)) shapeCasts_S6912_S1x6912 := by
  show StableHlo.after hostOps0 _ (Proc.devRef .tc main_v1) = _
  unfold hostOps0
  rw [StableHlo.after_cons, StableHlo.after_cons, StableHlo.after_nil, StableHlo.reshape_result', StableHlo.reshape_result_ne' _ _ _ _ _ (by decide)]
  rfl

/-! ## Where the blocks lie -/

/-- The block indices of the six windows at a point. -/
theorem index_facts : ∀ t : Fin cfg0.N,
    ((∀ a, (cfg0.win 0).index t a = 0) ∧ (∀ a, (cfg0.win 4).index t a = 0) ∧ (∀ a, (cfg0.win 5).index t a = 0))
      ∧ (win0_1.index t 0 = t.val ∧ win0_1.index t 1 = 0) ∧ (win0_2.index t 0 = 0 ∧ win0_2.index t 1 = t.val)
      ∧ (win0_3.index t 0 = 0 ∧ win0_3.index t 1 = t.val) :=
  (by decide +kernel : ∀ t : Fin grid0.N, _)

/-- The token window holds the whole token array. -/
theorem iblk_0 (c : Dev nD) (t : Fin cfg0.N) : iblk m c 0 t = V m c main_v0 := by
  funext y
  show V m c main_v0 ((win0_0.rect t).emb y) = _
  refine congrArg (V m c main_v0) (funext fun a => Fin.ext ?_)
  exact Window.rect_emb_val_of_index_zero win0_0 t a ((index_facts t).1.1 a) y

/-- Row `r` of the weight window at point `t` is row `768 t + r` of the weights. -/
theorem iblk_1 (c : Dev nD) (t : Fin cfg0.N) (r : Fin 768) (k : Fin 5120) (d : Fin 6912) (hd : d.val = t.val * 768 + r.val) :
    iblk m c 1 t (ValueIdx.ix2 r k) = V m c main_arg1 (ValueIdx.ix2 d k) := by
  show V m c main_arg1 ((win0_1.rect t).emb (ValueIdx.ix2 r k)) = _
  refine congrArg (V m c main_arg1) (funext fun a => Fin.ext ?_)
  rw [Window.rect_emb_val win0_1 t _ a rfl]
  match a with
  | ⟨0, _⟩ => exact (congrArg (fun n => n * 768 + r.val) (index_facts t).2.1.1).trans hd.symm
  | ⟨1, _⟩ => exact (congrArg (fun n => n * 5120 + k.val) (index_facts t).2.1.2).trans ((congrArg (· + k.val) (Nat.zero_mul 5120)).trans (Nat.zero_add _))

/-- Column `r` of the weight scales' window at point `t` is column `768 t + r` of the weight scales. -/
theorem iblk_2 (c : Dev nD) (t : Fin cfg0.N) (r : Fin 768) (d : Fin 6912) (hd : d.val = t.val * 768 + r.val) :
    iblk m c 2 t (ValueIdx.ix2 0 r) = V m c main_v1 (ValueIdx.ix2 0 d) := by
  show V m c main_v1 ((win0_2.rect t).emb (ValueIdx.ix2 0 r)) = _
  refine congrArg (V m c main_v1) (funext fun a => Fin.ext ?_)
  rw [Window.rect_emb_val win0_2 t _ a rfl]
  match a with
  | ⟨0, _⟩ => exact (congrArg (fun n => n * 1 + 0) (index_facts t).2.2.1.1)
  | ⟨1, _⟩ => exact (congrArg (fun n => n * 768 + r.val) (index_facts t).2.2.1.2).trans hd.symm

/-! ## The result arrays -/

/-- The first result of device `c`: the reference's function of the operands. -/
def first (c : Dev nD) : Buf (Elt Ideal) ((c : Thread nD τ).loc main_v2_0) := Cert.Tile.result (V m c main_v0) (V m c main_arg1) (V m c main_v1)

/-- What point `t` writes back to the first result is its block of that function. -/
theorem flushed_3 (c : Dev nD) (t : Fin cfg0.N) : (dats m 0 c).flushed 3 t = ((cfg0.win 3).blk t).view.read (Elt Ideal) (first m c) := by
  show (cfg0.win 3).cut (grid0.coords t) ((dats m 0 c).after 3 t) = _
  rw [after_3]
  funext y
  obtain ⟨r, q, rfl⟩ : ∃ (r : Fin 8) (q : Fin 768), y = ValueIdx.ix2 r q := ⟨y 0, y 1, ValueIdx.eq_ix2 y⟩
  have hN : t.val < 9 := lt_of_lt_of_eq t.isLt N_0
  have hd : t.val * 768 + q.val < 6912 := by have := q.isLt; omega
  show tile (iblk m c 0 t0) (iblk m c 1 t) (iblk m c 2 t) (ValueIdx.ix2 r q) = first m c ((win0_3.rect t).emb (ValueIdx.ix2 r q))
  have he : (win0_3.rect t).emb (ValueIdx.ix2 r q) = ValueIdx.ix2 r (⟨t.val * 768 + q.val, hd⟩ : Fin 6912) := by
    funext a
    refine Fin.ext ?_
    rw [Window.rect_emb_val win0_3 t _ a rfl]
    match a with
    | ⟨0, _⟩ => exact (congrArg (fun n => n * 8 + r.val) (index_facts t).2.2.2.1).trans ((congrArg (· + r.val) (Nat.zero_mul 8)).trans (Nat.zero_add _))
    | ⟨1, _⟩ => exact (congrArg (fun n => n * 768 + q.val) (index_facts t).2.2.2.2)
  rw [he, iblk_0]
  exact Cert.Tile.tile_eq _ _ _ _ _ r q _ (fun k => iblk_1 m c t q k _ rfl) (iblk_2 m c t q _ rfl)

/-- Every index of the first result lies in the block of the point that its column divided by 768 names. -/
theorem cover_3 (i : S8x6912.Idx) : ∃ t : Fin cfg0.N, (cfg0.win 3).flush t = true ∧ i ∈ ((cfg0.win 3).blk t).view.set := by
  have h0 : (i 0 : ℕ) < 8 := (i 0).isLt
  have h1 : (i 1 : ℕ) < 6912 := (i 1).isLt
  have hN : cfg0.N = 9 := N_0
  refine ⟨⟨(i 1 : ℕ) / 768, by omega⟩, flush0_3 _, ?_⟩
  generalize ht : (⟨(i 1 : ℕ) / 768, by omega⟩ : Fin cfg0.N) = t
  have hv : t.val = (i 1 : ℕ) / 768 := by rw [← ht]
  show i ∈ ((View.whole main_v2_0).slice (win0_3.rect t)).set
  rw [View.set_slice_whole, Rect.mem_set_unit]
  intro a
  match a with
  | ⟨0, _⟩ =>
    show win0_3.index t 0 * 8 ≤ (i 0 : ℕ) ∧ (i 0 : ℕ) < win0_3.index t 0 * 8 + 8
    rw [(index_facts t).2.2.2.1]; omega
  | ⟨1, _⟩ =>
    show win0_3.index t 1 * 768 ≤ (i 1 : ℕ) ∧ (i 1 : ℕ) < win0_3.index t 1 * 768 + 768
    rw [(index_facts t).2.2.2.2]; omega

/-- The first result array ends at that function. -/
theorem final_3 (c : Dev nD) : (dats m 0 c).arrAt 3 cfg0.N = first m c :=
  (dats m 0 c).arrAt_eq_of_cover 3 (first m c) (fun t _ => flushed_3 m c t) cover_3

/-- The last point. -/
def last : Fin cfg0.N := ⟨8, by rw [show cfg0.N = 9 from N_0]; decide⟩

/-- The second result array ends at the codes of the tokens. -/
theorem final_4 (c : Dev nD) : (dats m 0 c).arrAt 4 cfg0.N = codes (V m c main_v0) := by
  refine (dats m 0 c).arrAt_eq_of_cover 4 (codes (V m c main_v0)) (fun t _ => ?_) (fun i => ⟨last, (flush0_4 last).2 rfl, ?_⟩)
  · show (cfg0.win 4).cut (grid0.coords t) ((dats m 0 c).after 4 t) = _
    rw [after_4, iblk_0]
    funext y
    show codes (V m c main_v0) y = codes (V m c main_v0) ((win0_4.rect t).emb y)
    refine congrArg (codes (V m c main_v0)) (funext fun a => Fin.ext ?_)
    exact (Window.rect_emb_val_of_index_zero win0_4 t a ((index_facts t).1.2.1 a) y).symm
  · show i ∈ ((View.whole main_v2_1).slice (win0_4.rect last)).set
    rw [View.set_slice_whole, Rect.mem_set_unit]
    intro a
    show win0_4.index last a * S8x5120.size a ≤ (i a : ℕ) ∧ (i a : ℕ) < win0_4.index last a * S8x5120.size a + S8x5120.size a
    rw [show win0_4.index last a = 0 from (index_facts last).1.2.1 a, Nat.zero_mul, Nat.zero_add]
    exact ⟨Nat.zero_le _, (i a).isLt⟩

/-- The third result array ends at the scales of the tokens. -/
theorem final_5 (c : Dev nD) : (dats m 0 c).arrAt 5 cfg0.N = scale (V m c main_v0) := by
  refine (dats m 0 c).arrAt_eq_of_cover 5 (scale (V m c main_v0)) (fun t _ => ?_) (fun i => ⟨last, (flush0_5 last).2 rfl, ?_⟩)
  · show (cfg0.win 5).cut (grid0.coords t) ((dats m 0 c).after 5 t) = _
    rw [after_5, iblk_0]
    funext y
    show scale (V m c main_v0) y = scale (V m c main_v0) ((win0_5.rect t).emb y)
    refine congrArg (scale (V m c main_v0)) (funext fun a => Fin.ext ?_)
    exact (Window.rect_emb_val_of_index_zero win0_5 t a ((index_facts t).1.2.2 a) y).symm
  · show i ∈ ((View.whole main_v2_2).slice (win0_5.rect last)).set
    rw [View.set_slice_whole, Rect.mem_set_unit]
    intro a
    show win0_5.index last a * S8x1.size a ≤ (i a : ℕ) ∧ (i a : ℕ) < win0_5.index last a * S8x1.size a + S8x1.size a
    rw [show win0_5.index last a = 0 from (index_facts last).1.2.2 a, Nat.zero_mul, Nat.zero_add]
    exact ⟨Nat.zero_le _, (i a).isLt⟩

/-- The run of the kernel: its three results at those functions of the operands, its arguments unchanged. -/
theorem run : θ_run defs (onTc (τ := τ) (main (F := Ideal))) ⟨m, fun _ => 0, ρ⟩ (fun r => ∀ c : Dev nD,
      r.2.mem ((c.tc : Thread nD τ).loc main_v2_0) = first m c
      ∧ r.2.mem ((c.tc : Thread nD τ).loc main_v2_1) = codes (V m c main_v0)
      ∧ r.2.mem ((c.tc : Thread nD τ).loc main_v2_2) = scale (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c), ((h.1 c).1 5).trans (final_5 m c), h.2 c⟩)
    (θ_run_and (run_main m ρ) (unchanged m ρ))

end Cert.KernelIdeal.Results

end
-- ==== Proof.ReferenceResults.lean ====
/- The three result arrays of the reference after its run, as functions of its operands. -/
module

public import proofs.«01_k».proof.Proof.Tile
public import proofs.«01_k».proof.Proof.Gen.ReferenceIdeal.Frame
public import Idealize.ShloMosaic.Lib.Pipeline.Value

@[expose] public section

noncomputable section

namespace Cert.ReferenceIdeal.Results

open Idealize.ShloMosaic Idealize.ShloMosaic.TcCoe Idealize.SL.Sem
open Idealize.ShloMosaic.Pipeline (Dat Window)
open Cert.ReferenceIdeal Cert.ReferenceIdeal.Gen

variable (m : (ℓ : Loc nD τ sig) → Buf (Elt Ideal) ℓ) (ρ : Dev nD → PrngReg)

/-- The token array is the first argument without its unit axis. -/
theorem tokens_eq (c : Dev nD) : V m c main_v0 = shapeCast S8x5120 (m ((c : Thread nD τ).loc main_arg0)) shapeCasts_S8x1x5120_S8x5120 := by
  show StableHlo.after hostOps0 _ (Proc.devRef .tc main_v0) = _
  unfold hostOps0
  rw [StableHlo.after_cons, StableHlo.after_cons, StableHlo.after_nil, StableHlo.reshape_result_ne' _ _ _ _ _ (by decide), StableHlo.reshape_result']
  rfl

/-- The row of weight scales is the third argument under a unit axis. -/
theorem weightScales_eq (c : Dev nD) : V m c main_v1 = shapeCast S1x6912 (m ((c : Thread nD τ).loc main_arg2)) shapeCasts_S6912_S1x6912 := by
  show StableHlo.after hostOps0 _ (Proc.devRef .tc main_v1) = _
  unfold hostOps0
  rw [StableHlo.after_cons, StableHlo.after_cons, StableHlo.after_nil, StableHlo.reshape_result', StableHlo.reshape_result_ne' _ _ _ _ _ (by decide)]
  rfl

/-- Every window's block is its whole array: its block index is zero. -/
theorem index_zero : ∀ (t : Fin cfg0.N) (w : Fin 6) (a : Fin (cfg0.win w).shape.rank), (cfg0.win w).index t a = 0 :=
  (by decide +kernel : ∀ t : Fin grid0.N, _)

theorem iblk_0 (c : Dev nD) (t : Fin cfg0.N) : iblk m c 0 t = V m c main_v0 := by
  funext y
  show V m c main_v0 ((win0_0.rect t).emb y) = _
  exact congrArg (V m c main_v0) (funext fun a => Fin.ext (Window.rect_emb_val_of_index_zero win0_0 t a (index_zero t 0 a) y))

theorem iblk_1 (c : Dev nD) (t : Fin cfg0.N) : iblk m c 1 t = V m c main_arg1 := by
  funext y
  show V m c main_arg1 ((win0_1.rect t).emb y) = _
  exact congrArg (V m c main_arg1) (funext fun a => Fin.ext (Window.rect_emb_val_of_index_zero win0_1 t a (index_zero t 1 a) y))

theorem iblk_2 (c : Dev nD) (t : Fin cfg0.N) : iblk m c 2 t = V m c main_v1 := by
  funext y
  show V m c main_v1 ((win0_2.rect t).emb y) = _
  exact congrArg (V m c main_v1) (funext fun a => Fin.ext (Window.rect_emb_val_of_index_zero win0_2 t a (index_zero t 2 a) y))

theorem zeros : (![0, 0] : Fin 2 → Nat) = fun _ => 0 := funext fun a => by fin_cases a <;> rfl

/-- What the body leaves in each result's window. -/
theorem out_3 (x0 : Vec Ideal S8x5120 .bf16) (x1 : Vec Ideal S6912x5120 .fp8e4m3) (x2 : Vec Ideal S1x6912 .f32) :
    out0_3 x0 x1 x2 = k0_pay1 (k0_pay6 x0 x1 x2) k0_pay7 := by
  unfold out0_3
  rw [View.canon_unit_zero zeros, View.ld_unit_zero zeros, View.ld_unit_zero zeros, View.ld_unit_zero zeros]

theorem out_4 (x0 : Vec Ideal S8x5120 .bf16) (x1 : Vec Ideal S6912x5120 .fp8e4m3) (x2 : Vec Ideal S1x6912 .f32) :
    out0_4 x0 x1 x2 = k0_pay5 x0 := by
  unfold out0_4
  rw [View.canon_unit_zero zeros, View.ld_unit_zero zeros]

theorem out_5 (x0 : Vec Ideal S8x5120 .bf16) (x1 : Vec Ideal S6912x5120 .fp8e4m3) (x2 : Vec Ideal S1x6912 .f32) :
    out0_5 x0 x1 x2 = k0_pay4 x0 := by
  unfold out0_5
  rw [View.canon_unit_zero zeros, View.ld_unit_zero zeros]

/-- The first result of device `c`. -/
def first (c : Dev nD) : Buf (Elt Ideal) ((c : Thread nD τ).loc main_v2_0) := Cert.Tile.result (V m c main_v0) (V m c main_arg1) (V m c main_v1)

/-- The first result array ends at the reference's function of the operands. -/
theorem final_3 (c : Dev nD) : (dats m 0 c).arrAt 3 cfg0.N = first m c := by
  refine (dats m 0 c).arrAt_eq_of_cover 3 (first m c) (fun t _ => ?_) (fun i => ⟨t0_0, flush0_3 _, ?_⟩)
  · show (cfg0.win 3).cut (grid0.coords t) ((dats m 0 c).after 3 t) = _
    rw [after0_3, iblk_0, iblk_1, iblk_2, out_3]
    funext y
    show first m c y = first m c ((win0_3.rect t).emb y)
    refine congrArg (first m c) (funext fun a => Fin.ext ?_)
    exact (Window.rect_emb_val_of_index_zero win0_3 t a (index_zero t 3 a) y).symm
  · show i ∈ ((View.whole main_v2_0).slice (win0_3.rect t0_0)).set
    rw [View.set_slice_whole, Rect.mem_set_unit]
    intro a
    show win0_3.index t0_0 a * S8x6912.size a ≤ (i a : ℕ) ∧ (i a : ℕ) < win0_3.index t0_0 a * S8x6912.size a + S8x6912.size a
    rw [show win0_3.index t0_0 a = 0 from index_zero t0_0 3 a, Nat.zero_mul, Nat.zero_add]
    exact ⟨Nat.zero_le _, (i a).isLt⟩

/-- The second result array ends at the reference's codes of the tokens. -/
theorem final_4 (c : Dev nD) : (dats m 0 c).arrAt 4 cfg0.N = k0_pay5 (F := Ideal) (V m c main_v0) := by
  refine (dats m 0 c).arrAt_eq_of_cover 4 (k0_pay5 (F := Ideal) (V m c main_v0)) (fun t _ => ?_) (fun i => ⟨t0_0, flush0_4 _, ?_⟩)
  · show (cfg0.win 4).cut (grid0.coords t) ((dats m 0 c).after 4 t) = _
    rw [after0_4, iblk_0, iblk_1, iblk_2, out_4]
    funext y
    show k0_pay5 (F := Ideal) (V m c main_v0) y = k0_pay5 (F := Ideal) (V m c main_v0) ((win0_4.rect t).emb y)
    refine congrArg (k0_pay5 (F := Ideal) (V m c main_v0)) (funext fun a => Fin.ext ?_)
    exact (Window.rect_emb_val_of_index_zero win0_4 t a (index_zero t 4 a) y).symm
  · show i ∈ ((View.whole main_v2_1).slice (win0_4.rect t0_0)).set
    rw [View.set_slice_whole, Rect.mem_set_unit]
    intro a
    show win0_4.index t0_0 a * S8x5120.size a ≤ (i a : ℕ) ∧ (i a : ℕ) < win0_4.index t0_0 a * S8x5120.size a + S8x5120.size a
    rw [show win0_4.index t0_0 a = 0 from index_zero t0_0 4 a, Nat.zero_mul, Nat.zero_add]
    exact ⟨Nat.zero_le _, (i a).isLt⟩

/-- The third result array ends at the reference's scales of the tokens. -/
theorem final_5 (c : Dev nD) : (dats m 0 c).arrAt 5 cfg0.N = k0_pay4 (F := Ideal) (V m c main_v0) := by
  refine (dats m 0 c).arrAt_eq_of_cover 5 (k0_pay4 (F := Ideal) (V m c main_v0)) (fun t _ => ?_) (fun i => ⟨t0_0, flush0_5 _, ?_⟩)
  · show (cfg0.win 5).cut (grid0.coords t) ((dats m 0 c).after 5 t) = _
    rw [after0_5, iblk_0, iblk_1, iblk_2, out_5]
    funext y
    show k0_pay4 (F := Ideal) (V m c main_v0) y = k0_pay4 (F := Ideal) (V m c main_v0) ((win0_5.rect t).emb y)
    refine congrArg (k0_pay4 (F := Ideal) (V m c main_v0)) (funext fun a => Fin.ext ?_)
    exact (Window.rect_emb_val_of_index_zero win0_5 t a (index_zero t 5 a) y).symm
  · show i ∈ ((View.whole main_v2_2).slice (win0_5.rect t0_0)).set
    rw [View.set_slice_whole, Rect.mem_set_unit]
    intro a
    show win0_5.index t0_0 a * S8x1.size a ≤ (i a : ℕ) ∧ (i a : ℕ) < win0_5.index t0_0 a * S8x1.size a + S8x1.size a
    rw [show win0_5.index t0_0 a = 0 from index_zero t0_0 5 a, Nat.zero_mul, Nat.zero_add]
    exact ⟨Nat.zero_le _, (i a).isLt⟩

/-- The run of the reference: its three results at those functions of the operands, its arguments unchanged. -/
theorem run : θ_run defs (onTc (τ := τ) (main (F := Ideal))) ⟨m, fun _ => 0, ρ⟩ (fun r => ∀ c : Dev nD,
      r.2.mem ((c.tc : Thread nD τ).loc main_v2_0) = first m c
      ∧ r.2.mem ((c.tc : Thread nD τ).loc main_v2_1) = k0_pay5 (F := Ideal) (V m c main_v0)
      ∧ r.2.mem ((c.tc : Thread nD τ).loc main_v2_2) = k0_pay4 (F := Ideal) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_3 m c), ((h.1 c).1 4).trans (final_4 m c), ((h.1 c).1 5).trans (final_5 m c), h.2 c⟩)
    (θ_run_and (run_main m ρ) (unchanged m ρ))

end Cert.ReferenceIdeal.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelResults
public import proofs.«01_k».proof.Proof.ReferenceResults
public import Idealize.ShloMosaic.Adequacy
public import Idealize.ShloMosaic.Init

@[expose] public section

noncomputable section

namespace Cert.Proof

open Idealize.ShloMosaic Idealize.ShloMosaic.TcCoe Idealize.SL.Sem

section Operands

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From equal tokens both programs hand the same token array to their bodies. -/
theorem tokens_agree (c : Dev Cert.KernelIdeal.nD)
    (h : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    (Cert.ReferenceIdeal.Gen.V m' c Cert.ReferenceIdeal.main_v0 : Vec Ideal Cert.KernelIdeal.S8x5120 .bf16)
      = Cert.KernelIdeal.Gen.V m c Cert.KernelIdeal.main_v0 := by
  rw [Cert.ReferenceIdeal.Results.tokens_eq, Cert.KernelIdeal.Results.tokens_eq]
  exact congrArg (fun x : Vec Ideal Cert.KernelIdeal.S8x1x5120 .bf16 => shapeCast Cert.KernelIdeal.S8x5120 x Cert.KernelIdeal.Gen.shapeCasts_S8x1x5120_S8x5120) h

/-- From equal weight scales both programs hand the same row of weight scales to their bodies. -/
theorem weightScales_agree (c : Dev Cert.KernelIdeal.nD)
    (h : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (Cert.ReferenceIdeal.Gen.V m' c Cert.ReferenceIdeal.main_v1 : Vec Ideal Cert.KernelIdeal.S1x6912 .f32)
      = Cert.KernelIdeal.Gen.V m c Cert.KernelIdeal.main_v1 := by
  rw [Cert.ReferenceIdeal.Results.weightScales_eq, Cert.KernelIdeal.Results.weightScales_eq]
  exact congrArg (fun x : Vec Ideal Cert.KernelIdeal.S6912 .f32 => shapeCast Cert.KernelIdeal.S1x6912 x Cert.KernelIdeal.Gen.shapeCasts_S6912_S1x6912) h

/-- From equal weights both programs hand the same weights to their bodies. -/
theorem weights_agree (c : Dev Cert.KernelIdeal.nD)
    (h : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Gen.V m' c Cert.ReferenceIdeal.main_arg1 : Vec Ideal Cert.KernelIdeal.S6912x5120 .fp8e4m3)
      = Cert.KernelIdeal.Gen.V m c Cert.KernelIdeal.main_arg1 :=
  (Cert.ReferenceIdeal.Gen.V_main_arg1 m' c).trans (h.trans (Cert.KernelIdeal.Gen.V_main_arg1 m c).symm)

end Operands

/-- At the extended reals the kernel and the reference, from equal arguments, end with equal results, all three of them. -/
theorem algebraic : Cert.algebraic_KernelIdeal_ReferenceIdeal := by
  intro m g m' g' _ h
  refine ⟨fun c => Cert.KernelIdeal.Results.first m c, fun c => Cert.KernelIdeal.Body.codes (Cert.KernelIdeal.Gen.V m c Cert.KernelIdeal.main_v0),
    fun c => Cert.KernelIdeal.Body.scale (Cert.KernelIdeal.Gen.V m c Cert.KernelIdeal.main_v0), Cert.KernelIdeal.Results.run m g, ?_⟩
  refine (θ_run Cert.ReferenceIdeal.defs _ _).mono (fun r hr c => ?_) (Cert.ReferenceIdeal.Results.run m' g')
  have e0 := tokens_agree m m' c (h c).1
  have e1 := weights_agree m m' c (h c).2.1
  have e2 := weightScales_agree m m' c (h c).2.2
  obtain ⟨r0, r1, r2, ra⟩ := hr c
  refine ⟨r0.trans ?_, r1.trans ?_, r2.trans ?_, ra⟩
  · unfold Cert.ReferenceIdeal.Results.first Cert.KernelIdeal.Results.first
    exact congr (congr (congrArg Cert.Tile.result e0) e1) e2
  · exact (congrArg (Cert.ReferenceIdeal.Gen.k0_pay5 (F := Ideal)) e0).trans (Cert.Quantise.codes_eq _).symm
  · exact (congrArg (Cert.ReferenceIdeal.Gen.k0_pay4 (F := Ideal)) e0).trans (Cert.Quantise.scale_eq _).symm

/-- The five claims. -/
theorem claim : Cert.Claim :=
  ⟨Cert.Kernel.Gen.facts, Cert.KernelIdeal.Gen.facts, Cert.ReferenceIdeal.Gen.facts,
    Cert.Kernel.Body.frame, fun m g _ => Cert.KernelIdeal.Body.frame m g,
    fun m g _ => Cert.ReferenceIdeal.Gen.frame m g, trivial, algebraic⟩

end Cert.Proof

end
